-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3072x4096 : Shape := ⟨3, ![3, 3072, 4096]⟩
abbrev S256x256 : Shape := ⟨2, ![256, 256]⟩
abbrev S9216x4096 : Shape := ⟨2, ![9216, 4096]⟩
abbrev S9216x1 : Shape := ⟨2, ![9216, 1]⟩
abbrev S512x4096 : Shape := ⟨2, ![512, 4096]⟩
abbrev S512x1 : Shape := ⟨2, ![512, 1]⟩
abbrev S512x256 : Shape := ⟨2, ![512, 256]⟩
abbrev S512 : Shape := ⟨1, ![512]⟩
abbrev S512x384 : Shape := ⟨2, ![512, 384]⟩

abbrev nBuf : Space → Nat
  | .hbm => 5
  | .vmem => 8
  | .smem => 0
  | _ => 0

abbrev bufTy : (tb : Table) → Fin (tcTables nBuf tb) → BufTy
  | .hbm, ⟨0, _⟩ => ⟨S3x3072x4096, .bf16⟩
  | .hbm, ⟨1, _⟩ => ⟨S256x256, .bf16⟩
  | .hbm, ⟨2, _⟩ => ⟨S9216x4096, .bf16⟩
  | .hbm, ⟨3, _⟩ => ⟨S9216x1, .f32⟩
  | .hbm, ⟨4, _⟩ => ⟨S9216x4096, .fp8e4m3⟩
  | .local _ .vmem, ⟨0, _⟩ => ⟨S512x4096, .bf16⟩
  | .local _ .vmem, ⟨1, _⟩ => ⟨S512x4096, .bf16⟩
  | .local _ .vmem, ⟨2, _⟩ => ⟨S256x256, .bf16⟩
  | .local _ .vmem, ⟨3, _⟩ => ⟨S512x1, .f32⟩
  | .local _ .vmem, ⟨4, _⟩ => ⟨S512x1, .f32⟩
  | .local _ .vmem, ⟨5, _⟩ => ⟨S512x4096, .fp8e4m3⟩
  | .local _ .vmem, ⟨6, _⟩ => ⟨S512x4096, .fp8e4m3⟩
  | .local _ .vmem, ⟨7, _⟩ => ⟨S512x4096, .f32⟩
  | _, _ => ⟨S3x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S3x3072x4096 : Shape := ⟨3, ![3, 3072, 4096]⟩
abbrev S128x128 : Shape := ⟨2, ![128, 128]⟩
abbrev S277 : Shape := ⟨1, ![277]⟩
abbrev S3x3072x32x128 : Shape := ⟨4, ![3, 3072, 32, 128]⟩
abbrev S_ : Shape := ⟨0, ![]⟩
abbrev S3x3072 : Shape := ⟨2, ![3, 3072]⟩
abbrev S3x3072x1 : Shape := ⟨3, ![3, 3072, 1]⟩
abbrev S1x1x277 : Shape := ⟨3, ![1, 1, 277]⟩
abbrev S3x3072x277 : Shape := ⟨3, ![3, 3072, 277]⟩
abbrev S9216x4096 : Shape := ⟨2, ![9216, 4096]⟩
abbrev S9216x1 : Shape := ⟨2, ![9216, 1]⟩

abbrev nBuf : Space → Nat
  | .hbm => 66
  | .vmem => 2
  | .smem => 0
  | _ => 0

abbrev bufTy : (tb : Table) → Fin (tcTables nBuf tb) → BufTy
  | .hbm, ⟨0, _⟩ => ⟨S3x3072x4096, .bf16⟩
  | .hbm, ⟨1, _⟩ => ⟨S128x128, .bf16⟩
  | .hbm, ⟨2, _⟩ => ⟨S277, .f32⟩
  | .hbm, ⟨3, _⟩ => ⟨S3x3072x32x128, .bf16⟩
  | .hbm, ⟨4, _⟩ => ⟨S3x3072x32x128, .f32⟩
  | .hbm, ⟨5, _⟩ => ⟨S_, .f32⟩
  | .hbm, ⟨6, _⟩ => ⟨S3x3072x32x128, .f32⟩
  | .hbm, ⟨7, _⟩ => ⟨S3x3072x32x128, .f32⟩
  | .hbm, ⟨8, _⟩ => ⟨S3x3072x4096, .f32⟩
  | .hbm, ⟨9, _⟩ => ⟨S3x3072x4096, .f32⟩
  | .hbm, ⟨10, _⟩ => ⟨S_, .f32⟩
  | .hbm, ⟨11, _⟩ => ⟨S3x3072, .f32⟩
  | .hbm, ⟨12, _⟩ => ⟨S3x3072x1, .f32⟩
  | .hbm, ⟨13, _⟩ => ⟨S_, .f32⟩
  | .hbm, ⟨14, _⟩ => ⟨S3x3072x1, .f32⟩
  | .hbm, ⟨15, _⟩ => ⟨S3x3072x1, .f32⟩
  | .hbm, ⟨16, _⟩ => ⟨S1x1x277, .f32⟩
  | .hbm, ⟨17, _⟩ => ⟨S3x3072x277, .f32⟩
  | .hbm, ⟨18, _⟩ => ⟨S3x3072x277, .f32⟩
  | .hbm, ⟨19, _⟩ => ⟨S3x3072x277, .i1⟩
  | .hbm, ⟨20, _⟩ => ⟨S3x3072x277, .i32⟩
  | .hbm, ⟨21, _⟩ => ⟨S_, .i32⟩
  | .hbm, ⟨22, _⟩ => ⟨S3x3072, .i32⟩
  | .hbm, ⟨23, _⟩ => ⟨S3x3072x1, .i32⟩
  | .hbm, ⟨24, _⟩ => ⟨S_, .i32⟩
  | .hbm, ⟨25, _⟩ => ⟨S3x3072x1, .i32⟩
  | .hbm, ⟨26, _⟩ => ⟨S3x3072x1, .i32⟩
  | .hbm, ⟨27, _⟩ => ⟨S_, .f32⟩
  | .hbm, ⟨28, _⟩ => ⟨S3x3072x1, .f32⟩
  | .hbm, ⟨29, _⟩ => ⟨S3x3072x1, .i1⟩
  | .hbm, ⟨30, _⟩ => ⟨S_, .f32⟩
  | .hbm, ⟨31, _⟩ => ⟨S3x3072x1, .f32⟩
  | .hbm, ⟨32, _⟩ => ⟨S3x3072x1, .i1⟩
  | .hbm, ⟨33, _⟩ => ⟨S3x3072x1, .i1⟩
  | .hbm, ⟨34, _⟩ => ⟨S_, .i32⟩
  | .hbm, ⟨35, _⟩ => ⟨S_, .i32⟩
  | .hbm, ⟨36, _⟩ => ⟨S3x3072x1, .i32⟩
  | .hbm, ⟨37, _⟩ => ⟨S3x3072x1, .i32⟩
  | .hbm, ⟨38, _⟩ => ⟨S_, .f32⟩
  | .hbm, ⟨39, _⟩ => ⟨S3x3072x1, .f32⟩
  | .hbm, ⟨40, _⟩ => ⟨S3x3072x1, .i1⟩
  | .hbm, ⟨41, _⟩ => ⟨S_, .i32⟩
  | .hbm, ⟨42, _⟩ => ⟨S3x3072x1, .i32⟩
  | .hbm, ⟨43, _⟩ => ⟨S3x3072x1, .i32⟩
  | .hbm, ⟨44, _⟩ => ⟨S_, .f32⟩
  | .hbm, ⟨45, _⟩ => ⟨S3x3072x1, .f32⟩
  | .hbm, ⟨46, _⟩ => ⟨S3x3072x1, .f32⟩
  | .hbm, ⟨47, _⟩ => ⟨S3x3072x1, .f32⟩
  | .hbm, ⟨48, _⟩ => ⟨S_, .f32⟩
  | .hbm, ⟨49, _⟩ => ⟨S3x3072x1, .f32⟩
  | .hbm, ⟨50, _⟩ => ⟨S3x3072x1, .i32⟩
  | .hbm, ⟨51, _⟩ => ⟨S3x3072x1, .f32⟩
  | .hbm, ⟨52, _⟩ => ⟨S3x3072x1, .f32⟩
  | .hbm, ⟨53, _⟩ => ⟨S3x3072x4096, .f32⟩
  | .hbm, ⟨54, _⟩ => ⟨S3x3072x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S3x3072x4096, .f32⟩
  | .hbm, ⟨59, _⟩ => ⟨S3x3072x4096, .f32⟩
  | .hbm, ⟨60, _⟩ => ⟨S_, .f32⟩
  | .hbm, ⟨61, _⟩ => ⟨S3x3072x4096, .f32⟩
  | .hbm, ⟨62, _⟩ => ⟨S3x3072x4096, .f32⟩
  | .hbm, ⟨63, _⟩ => ⟨S9216x4096, .f32⟩
  | .hbm, ⟨64, _⟩ => ⟨S9216x1, .f32⟩
  | .hbm, ⟨65, _⟩ => ⟨S9216x4096, .fp8e4m3⟩
  | .local _ .vmem, ⟨0, _⟩ => ⟨S9216x4096, .f32⟩
  | .local _ .vmem, ⟨1, _⟩ => ⟨S9216x4096, .fp8e4m3⟩
  | _, _ => ⟨S3x3072x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_cst_13 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S9216x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Block.lean ====
/-
  Hand-written. What the kernel's body leaves in its two output blocks at one grid point. The body stores the rotated and
  scaled values in its scratch sixteen column blocks at a time and loads the scratch whole: `scratch` is what that load
  reads, `scratch_eq` says which function of the point's two input blocks it is.
-/
module

public import proofs.«01_k».proof.Defs
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Block

open Idealize.ShloMosaic Idealize.SL.Sem Cert.KernelIdeal Cert.KernelIdeal.Gen Idealize.ShloMosaic.TcCoe

section Any

variable {F : FTy → Type} [FloatOps F]
variable (m : (ℓ : Loc nD τ sig) → Buf (Elt F) ℓ)

/-- The sixteen stores of the body into its scratch, the last one first. -/
def pieces (x0 : Vec F S512x4096 .bf16) (x1 : Vec F S256x256 .bf16) : List (View.Piece (Elt F) S512x4096 .f32) :=
  [⟨Rect.unit ![0, 3840] ![512, 256] inb_S512x4096_S512x256_0_3840, k0_pay20 (k0_pay19 x1 (View.ld x0 (Rect.unit ![0, 3840] ![512, 256] inb_S512x4096_S512x256_0_3840)))⟩,
    ⟨Rect.unit ![0, 3584] ![512, 256] inb_S512x4096_S512x256_0_3584, k0_pay18 x1 (View.ld x0 (Rect.unit ![0, 3584] ![512, 256] inb_S512x4096_S512x256_0_3584))⟩,
    ⟨Rect.unit ![0, 3328] ![512, 256] inb_S512x4096_S512x256_0_3328, k0_pay17 x1 (View.ld x0 (Rect.unit ![0, 3328] ![512, 256] inb_S512x4096_S512x256_0_3328))⟩,
    ⟨Rect.unit ![0, 3072] ![512, 256] inb_S512x4096_S512x256_0_3072, k0_pay16 x1 (View.ld x0 (Rect.unit ![0, 3072] ![512, 256] inb_S512x4096_S512x256_0_3072))⟩,
    ⟨Rect.unit ![0, 2816] ![512, 256] inb_S512x4096_S512x256_0_2816, k0_pay15 (k0_pay14 x1 (View.ld x0 (Rect.unit ![0, 2816] ![512, 256] inb_S512x4096_S512x256_0_2816)))⟩,
    ⟨Rect.unit ![0, 2560] ![512, 256] inb_S512x4096_S512x256_0_2560, k0_pay13 x1 (View.ld x0 (Rect.unit ![0, 2560] ![512, 256] inb_S512x4096_S512x256_0_2560))⟩,
    ⟨Rect.unit ![0, 2304] ![512, 256] inb_S512x4096_S512x256_0_2304, k0_pay12 x1 (View.ld x0 (Rect.unit ![0, 2304] ![512, 256] inb_S512x4096_S512x256_0_2304))⟩,
    ⟨Rect.unit ![0, 2048] ![512, 256] inb_S512x4096_S512x256_0_2048, k0_pay11 x1 (View.ld x0 (Rect.unit ![0, 2048] ![512, 256] inb_S512x4096_S512x256_0_2048))⟩,
    ⟨Rect.unit ![0, 1792] ![512, 256] inb_S512x4096_S512x256_0_1792, k0_pay10 (k0_pay9 x1 (View.ld x0 (Rect.unit ![0, 1792] ![512, 256] inb_S512x4096_S512x256_0_1792)))⟩,
    ⟨Rect.unit ![0, 1536] ![512, 256] inb_S512x4096_S512x256_0_1536, k0_pay8 x1 (View.ld x0 (Rect.unit ![0, 1536] ![512, 256] inb_S512x4096_S512x256_0_1536))⟩,
    ⟨Rect.unit ![0, 1280] ![512, 256] inb_S512x4096_S512x256_0_1280, k0_pay7 x1 (View.ld x0 (Rect.unit ![0, 1280] ![512, 256] inb_S512x4096_S512x256_0_1280))⟩,
    ⟨Rect.unit ![0, 1024] ![512, 256] inb_S512x4096_S512x256_0_1024, k0_pay6 x1 (View.ld x0 (Rect.unit ![0, 1024] ![512, 256] inb_S512x4096_S512x256_0_1024))⟩,
    ⟨Rect.unit ![0, 768] ![512, 256] inb_S512x4096_S512x256_0_768, k0_pay5 (k0_pay4 x1 (View.ld x0 (Rect.unit ![0, 768] ![512, 256] inb_S512x4096_S512x256_0_768)))⟩,
    ⟨Rect.unit ![0, 512] ![512, 256] inb_S512x4096_S512x256_0_512, k0_pay3 x1 (View.ld x0 (Rect.unit ![0, 512] ![512, 256] inb_S512x4096_S512x256_0_512))⟩,
    ⟨Rect.unit ![0, 256] ![512, 256] inb_S512x4096_S512x256_0_256, k0_pay2 x1 (View.ld x0 (Rect.unit ![0, 256] ![512, 256] inb_S512x4096_S512x256_0_256))⟩,
    ⟨Rect.unit ![0, 0] ![512, 256] inb_S512x4096_S512x256_0_0, k0_pay1 x1 (View.ld x0 (Rect.unit ![0, 0] ![512, 256] inb_S512x4096_S512x256_0_0))⟩]

/-- What the body's load of the whole scratch reads. -/
def scratch (x0 : Vec F S512x4096 .bf16) (x1 : Vec F S256x256 .bf16) : Vec F S512x4096 .f32 :=
  View.canon (pieces x0 x1)

/-- Loading the whole scratch reads it index by index. -/
theorem load_whole (i : S512x4096.Idx) :
    (Rect.unit (s := S512x4096) ![0, 0] ![512, 4096] inb_S512x4096_S512x4096_0_0).toLoadRect.idx i = i := by
  refine funext fun a => Fin.ext ?_
  rw [show ∀ j, (Rect.unit (s := S512x4096) ![0, 0] ![512, 4096] inb_S512x4096_S512x4096_0_0).toLoadRect.idx j
    = (Rect.unit (s := S512x4096) ![0, 0] ![512, 4096] inb_S512x4096_S512x4096_0_0).emb j from fun _ => rfl,
    ValueKit.rect_emb_unit_val]
  fin_cases a <;> exact Nat.zero_add _

/-- The scale block at a grid point. -/
theorem outs_scale (c : Dev nD) (t : Fin cfg0.N) : (outsAt0 m c t).1
    = k0_pay26 (k0_pay22 (scratch (iblk m c 0 t) (iblk m c 1 t))) (k0_pay23 (scratch (iblk m c 0 t) (iblk m c 1 t))) k0_pay24 := by
  unfold outsAt0
  dsimp only
  frame_open
  simp (disch := decide) only [↓ View.readCov_skip, ↓ View.readCov_cons_toLoadRect, ↓ View.readCov_fill]
  frame_out
  simp only [View.readCov_eq_canon', load_whole]
  rfl

/-- The code block at a grid point. -/
theorem outs_code (c : Dev nD) (t : Fin cfg0.N) : (outsAt0 m c t).2
    = k0_pay27 (scratch (iblk m c 0 t) (iblk m c 1 t)) (k0_pay22 (scratch (iblk m c 0 t) (iblk m c 1 t)))
        (k0_pay23 (scratch (iblk m c 0 t) (iblk m c 1 t))) k0_pay24 := by
  unfold outsAt0
  dsimp only
  frame_open
  simp (disch := decide) only [↓ View.readCov_skip, ↓ View.readCov_cons_toLoadRect, ↓ View.readCov_fill]
  frame_out
  simp only [View.readCov_eq_canon', load_whole]
  rfl

end Any

/-- The rotated and scaled value at row `r`, column `j`: the row's block of 256 columns times column `j % 256` of the matrix. -/
def rot (x0 : Vec Ideal S512x4096 .bf16) (x1 : Vec Ideal S256x256 .bf16) (r : Fin 512) (j : Fin 4096) : EReal :=
  (∑ k : Fin 256, x0 (ix2 r ⟨j.val / 256 * 256 + k.val, by omega⟩) * x1 (ix2 k ⟨j.val % 256, by omega⟩))
    * Ideal.ofBits .f32 0x3DB504F3#32

/-- One column block's payload, at an index. -/
theorem pay_apply (x1 : Vec Ideal S256x256 .bf16) (v : Vec Ideal S512x256 .bf16) (r : Fin 512) (j : Fin 256) :
    k0_pay1 (F := Ideal) x1 v (ix2 r j) = (∑ k : Fin 256, v (ix2 r k) * x1 (ix2 k j)) * Ideal.ofBits .f32 0x3DB504F3#32 := by
  pointwise [k0_pay1]

/-- A column block at offset `256 b` is a block of `rot`. -/
theorem piece_apply (x0 : Vec Ideal S512x4096 .bf16) (x1 : Vec Ideal S256x256 .bf16) (b : ℕ) (hb : b < 16)
    (h : ∀ a, (![0, 256 * b] : Fin 2 → ℕ) a + (![512, 256] : Fin 2 → ℕ) a ≤ S512x4096.size a) (x : S512x256.Idx) :
    k0_pay1 (F := Ideal) x1 (View.ld x0 (Rect.unit ![0, 256 * b] ![512, 256] h)) x
      = (fun i : S512x4096.Idx => rot x0 x1 (i 0) (i 1)) ((Rect.unit (s := S512x4096) ![0, 256 * b] ![512, 256] h).emb x) := by
  idx_vars x
  rw [pay_apply]
  have e0 : (Rect.unit (s := S512x4096) ![0, 256 * b] ![512, 256] h).emb (ix2 x0 x1) 0 = x0 :=
    Fin.ext (by rw [ValueKit.rect_emb_unit_val]; simp)
  have e1 : (Rect.unit (s := S512x4096) ![0, 256 * b] ![512, 256] h).emb (ix2 x0 x1) 1
      = (⟨256 * b + x1.val, by omega⟩ : Fin 4096) :=
    Fin.ext (by rw [ValueKit.rect_emb_unit_val]; simp)
  pointwise [rot]
  rw [e0, e1]
  refine congrArg (· * _) (Finset.sum_congr rfl fun k _ => ?_)
  congr 2 <;> blk_ext []

/-- The load of the whole scratch reads `rot`. -/
theorem scratch_eq (x0 : Vec Ideal S512x4096 .bf16) (x1 : Vec Ideal S256x256 .bf16) :
    scratch (F := Ideal) x0 x1 = fun i => rot x0 x1 (i 0) (i 1) := by
  unfold scratch
  funext y
  have hc := View.cover_of_tiledL (pieces (F := Ideal) x0 x1) ![512, 256] (by sl_kernel_rfl) y
  refine View.canon_append_of_piecesOf (fun i : S512x4096.Idx => rot x0 x1 (i 0) (i 1)) [] (pieces (F := Ideal) x0 x1) ?_ y hc
  unfold pieces
  exact ⟨piece_apply x0 x1 15 (by omega) _, piece_apply x0 x1 14 (by omega) _, piece_apply x0 x1 13 (by omega) _,
    piece_apply x0 x1 12 (by omega) _, piece_apply x0 x1 11 (by omega) _, piece_apply x0 x1 10 (by omega) _,
    piece_apply x0 x1 9 (by omega) _, piece_apply x0 x1 8 (by omega) _, piece_apply x0 x1 7 (by omega) _,
    piece_apply x0 x1 6 (by omega) _, piece_apply x0 x1 5 (by omega) _, piece_apply x0 x1 4 (by omega) _,
    piece_apply x0 x1 3 (by omega) _, piece_apply x0 x1 2 (by omega) _, piece_apply x0 x1 1 (by omega) _,
    piece_apply x0 x1 0 (by omega) _, trivial⟩

end Cert.Proof.Block
end
-- ==== Proof.Table.lean ====
/-
  Hand-written. The two printed Hadamard tables. The reference's 128 by 128 table has -1 at row `k`, column `j` where the number
  of bits that `k` and `j` share is odd, and 1 elsewhere. The kernel's 256 by 256 table is that table placed twice on the
  diagonal, with zeros (of either sign) elsewhere. So a sum down one of its columns is a sum over the 128 rows of the column's
  own block.
-/
module

public import proofs.«01_k».proof.Defs
public import Idealize.ShloMosaic.Lib.Pointwise
public import Idealize.ShloMosaic.Lib.Tactic
public import Idealize.ShloMosaic.Lib.IdealHost

@[expose] public section

set_option maxRecDepth 16384

noncomputable section

namespace Cert.Proof.Table

open Idealize.ShloMosaic

/-- Whether `n < 128` has an odd number of bits. -/
def odd (n : ℕ) : Bool := Nat.beq ((n % 2 + n / 2 % 2 + n / 4 % 2 + n / 8 % 2 + n / 16 % 2 + n / 32 % 2 + n / 64 % 2) % 2) 1

/-- The pattern of the Hadamard matrix's entry at row `k`, column `j`: -1 or 1. -/
def sign (k j : ℕ) : BitVec 16 := bif odd (k &&& j) then 0xBF80#16 else 0x3F80#16

/-- The pattern outside the diagonal blocks: a zero with the sign of the entry. -/
def zero (k j : ℕ) : BitVec 16 := bif odd (k &&& j) then 0x8000#16 else 0x0000#16

/-- Entry `j` of the `b`-th run of 128 entries in the `a`-th quarter of the kernel's table. -/
def entry (a b j : ℕ) : BitVec 16 :=
  bif Nat.beq (a / 2) (b % 2) then sign ((64 * a + b / 2) % 128) j else zero ((64 * a + b / 2) % 128) j

/-- A choice among four values, in the form the printed table makes it. -/
def pick4 (f : ℕ → BitVec 16) (n : ℕ) : BitVec 16 := match n with
  | 0 => f 0 | 1 => f 1 | 2 => f 2 | 3 => f 3
  | _ => 0#16

/-- A choice among 128 values, in the form the printed tables make it. -/
def pick128 (f : ℕ → BitVec 16) (n : ℕ) : BitVec 16 := match n with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#16

theorem pick4_eq (f : ℕ → BitVec 16) (n : Fin 4) : pick4 f n = f n := by
  fin_cases n <;> rfl

theorem pick128_eq (f : ℕ → BitVec 16) (n : Fin 128) : pick128 f n = f n := by
  fin_cases n <;> rfl

/-- The reference's table, read digit by digit. -/
theorem reference_table (i : ℕ) : Cert.ReferenceIdeal.lit0t i
    = pick128 (fun k => pick128 (fun j => sign k j) (i % 128)) (i / 128) := by
  sl_kernel_rfl

/-- The kernel's table, read digit by digit. -/
theorem kernel_table (i : ℕ) : Cert.KernelIdeal.lit0t i
    = pick4 (fun a => pick128 (fun b => pick128 (fun j => entry a b j) (i % 128)) (i / 128 % 128)) (i / 16384) := by
  sl_kernel_rfl

end Cert.Proof.Table
end
-- ==== Proof.Hadamard.lean ====
/-
  Hand-written. A sum down a column of the kernel's 256 by 256 matrix is a sum over the 128 rows of the column's own diagonal
  block, in the reference's 128 by 128 matrix.
-/
module

public import proofs.«01_k».proof.Proof.Table

@[expose] public section

set_option maxRecDepth 16384

noncomputable section

namespace Cert.Proof.Hadamard

open Idealize.ShloMosaic Cert.Proof.Table

/-- The kernel's entry at row `k`, column `j`. -/
def big (k j : Fin 256) : EReal := Ideal.ofBits .bf16 (Cert.KernelIdeal.lit0 ⟨256 * k.val + j.val, by omega⟩)

/-- The reference's entry at row `k`, column `j`. -/
def small (k j : Fin 128) : EReal := Ideal.ofBits .bf16 (Cert.ReferenceIdeal.lit0 ⟨128 * k.val + j.val, by omega⟩)

theorem small_eq (k j : Fin 128) : small k j = Ideal.ofBits .bf16 (sign k.val j.val) := by
  unfold small
  rw [show Cert.ReferenceIdeal.lit0 ⟨128 * k.val + j.val, by omega⟩ = Cert.ReferenceIdeal.lit0t (128 * k.val + j.val) from rfl,
    reference_table, show (128 * k.val + j.val) / 128 = k.val by omega, show (128 * k.val + j.val) % 128 = j.val by omega,
    pick128_eq _ k, pick128_eq _ j]

theorem zero_eq (k j : ℕ) : Ideal.ofBits .bf16 (zero k j) = 0 := by
  unfold zero
  cases odd (k &&& j) <;> simp [Ideal.ofBits, Ideal.ieee]

theorem big_eq (a b : Fin 2) (k j : Fin 128) : big ⟨128 * a.val + k.val, by omega⟩ ⟨128 * b.val + j.val, by omega⟩
    = if a = b then small k j else 0 := by
  unfold big
  dsimp only
  rw [show ∀ h, Cert.KernelIdeal.lit0 ⟨256 * (128 * a.val + k.val) + (128 * b.val + j.val), h⟩
      = Cert.KernelIdeal.lit0t (256 * (128 * a.val + k.val) + (128 * b.val + j.val)) from fun _ => rfl,
    kernel_table,
    show (256 * (128 * a.val + k.val) + (128 * b.val + j.val)) / 16384 = 2 * a.val + k.val / 64 by omega,
    show (256 * (128 * a.val + k.val) + (128 * b.val + j.val)) / 128 % 128 = 2 * (k.val % 64) + b.val by omega,
    show (256 * (128 * a.val + k.val) + (128 * b.val + j.val)) % 128 = j.val by omega,
    pick4_eq _ ⟨2 * a.val + k.val / 64, by omega⟩, pick128_eq _ ⟨2 * (k.val % 64) + b.val, by omega⟩, pick128_eq _ j]
  unfold entry
  dsimp only
  rw [show (2 * a.val + k.val / 64) / 2 = a.val by omega, show (2 * (k.val % 64) + b.val) % 2 = b.val by omega,
    show (64 * (2 * a.val + k.val / 64) + (2 * (k.val % 64) + b.val) / 2) % 128 = k.val by omega]
  by_cases h : a = b
  · subst h
    rw [if_pos rfl, Nat.beq_refl, cond_true, small_eq]
  · rw [if_neg h, show Nat.beq a.val b.val = false from by
      rw [← Bool.not_eq_true]; exact fun e => h (Fin.ext (Nat.eq_of_beq_eq_true e)), cond_false, zero_eq]

/-- The sum down column `j`. -/
theorem sum_big (f : Fin 256 → EReal) (j : Fin 256) :
    ∑ k, f k * big k j = ∑ k : Fin 128, f ⟨j.val / 128 * 128 + k.val, by omega⟩ * small k ⟨j.val % 128, by omega⟩ := by
  obtain ⟨b, j', hj⟩ : ∃ (b : Fin 2) (j' : Fin 128), j = ⟨128 * b.val + j'.val, by omega⟩ :=
    ⟨⟨j.val / 128, by omega⟩, ⟨j.val % 128, by omega⟩, Fin.ext (by dsimp only; omega)⟩
  subst hj
  have h0 : ∀ k : Fin 128, (Fin.castAdd 128 k : Fin (128 + 128)) = (⟨128 * (0 : Fin 2).val + k.val, by omega⟩ : Fin 256) :=
    fun k => Fin.ext (by simp)
  have h1 : ∀ k : Fin 128, (Fin.natAdd 128 k : Fin (128 + 128)) = (⟨128 * (1 : Fin 2).val + k.val, by omega⟩ : Fin 256) :=
    fun k => Fin.ext (by simp [Nat.add_comm])
  rw [show (∑ k : Fin 256, f k * big k ⟨128 * b.val + j'.val, by omega⟩)
    = ∑ k : Fin (128 + 128), f k * big k ⟨128 * b.val + j'.val, by omega⟩ from rfl, Fin.sum_univ_add]
  simp only [h0, h1, big_eq]
  have hk : ∀ k : Fin 128, (⟨(128 * b.val + j'.val) / 128 * 128 + k.val, by omega⟩ : Fin 256) = ⟨128 * b.val + k.val, by omega⟩ :=
    fun k => Fin.ext (by dsimp only; omega)
  have hl : (⟨(128 * b.val + j'.val) % 128, by omega⟩ : Fin 128) = j' := Fin.ext (by dsimp only; omega)
  simp only [hk, hl]
  fin_cases b <;> simp

end Cert.Proof.Hadamard
end
-- ==== Proof.Power.lean ====
/-
  Hand-written. The scalar arithmetic of the quantiser: the exponent of a value counted against a table of powers of two, and
  powers of two built from their bit patterns.
-/
module

public import proofs.«01_k».proof.Defs
public import Idealize.ShloMosaic.Lib.Pointwise
public import Idealize.ShloMosaic.Lib.IdealHost
public import Mathlib.Data.BitVec

@[expose] public section

set_option maxRecDepth 16384

noncomputable section

namespace Cert.Proof.Power

open Idealize.ShloMosaic

/-! ## Powers of two from their patterns -/

/-- The fields of the pattern with exponent field `n` and nothing else. -/
theorem fields : ∀ n : Fin 255,
    (BitVec.ofNat 32 (n.val * 8388608)).extractLsb' 31 1 = 0#1
    ∧ ((BitVec.ofNat 32 (n.val * 8388608)).extractLsb' 23 8).toNat = n.val
    ∧ ((BitVec.ofNat 32 (n.val * 8388608)).extractLsb' 0 23).toNat = 0 := by
  decide +kernel

/-- A pattern with exponent field `n`, neither 0 nor 255, and nothing else denotes `2 ^ (n - 127)`. -/
theorem ofBits_exponent (n : ℕ) (h0 : 0 < n) (h1 : n < 255) :
    Ideal.ofBits .f32 (BitVec.ofNat 32 (n * 8388608)) = (((2 : ℝ) ^ ((n : ℤ) - 127) : ℝ) : EReal) := by
  obtain ⟨hs, he, hf⟩ := fields ⟨n, h1⟩
  dsimp only at hs he hf
  show Ideal.ieee 8 23 (BitVec.ofNat 32 (n * 8388608)) = _
  unfold Ideal.ieee
  dsimp only
  rw [show (8 : ℕ) + 23 = 31 from rfl, hs, he, hf, if_neg (by omega), if_neg (by omega)]
  congr 1
  rw [if_neg (by decide), one_mul]
  push_cast
  rw [show (8388608 : ℝ) = (2 : ℝ) ^ (23 : ℤ) by norm_num, ← zpow_add₀ (by norm_num)]
  congr 1
  ring

/-- `2.0` denotes 2. -/
theorem ofBits_two : Ideal.ofBits .f32 0x40000000#32 = ((2 : ℝ) : EReal) := by
  rw [show (0x40000000#32 : BitVec 32) = BitVec.ofNat 32 (128 * 8388608) from rfl, ofBits_exponent 128 (by omega) (by omega)]
  norm_num

/-- A whole power of two, as the power function gives it. -/
theorem pow_two (z : ℤ) : Ideal.pow (Ideal.ofBits .f32 0x40000000#32) (((z : ℝ)) : EReal) = (((2 : ℝ) ^ z : ℝ) : EReal) := by
  rw [ofBits_two, Ideal.pow_coe_coe]
  congr 1
  exact Real.rpow_intCast 2 z

/-- The product of two powers of two, the exponent halved: how the kernel builds a power whose exponent may pass the normal
    range. -/
def built (e : BitVec 32) : EReal :=
  Ideal.ofBits .f32 (IntOp.shli .vector (IntOp.addi (IntOp.shrsi .vector e 1#32) 127#32) 23#32)
    * Ideal.ofBits .f32 (IntOp.shli .vector (IntOp.addi (IntOp.subi e (IntOp.shrsi .vector e 1#32)) 127#32) 23#32)

/-- The two exponent fields of `built`, for every exponent from -149 to 149. -/
theorem halves : ∀ n : Fin 299, ∃ p q : Fin 255, 0 < p.val ∧ 0 < q.val ∧ (p.val : ℤ) + q.val = n.val - 149 + 254
    ∧ IntOp.shli .vector (IntOp.addi (IntOp.shrsi .vector (BitVec.ofInt 32 (n.val - 149)) 1#32) 127#32) 23#32
      = BitVec.ofNat 32 (p.val * 8388608)
    ∧ IntOp.shli .vector (IntOp.addi (IntOp.subi (BitVec.ofInt 32 (n.val - 149)) (IntOp.shrsi .vector (BitVec.ofInt 32 (n.val - 149)) 1#32)) 127#32) 23#32
      = BitVec.ofNat 32 (q.val * 8388608)
    ∧ (BitVec.ofInt 32 (n.val - 149)).toInt = n.val - 149 := by
  intro n
  have key : ∀ n : Fin 299, let p : ℕ := (n.val + 105) / 2; let q : ℕ := n.val + 105 - p
      0 < p ∧ p < 255 ∧ 0 < q ∧ q < 255
      ∧ IntOp.shli .vector (IntOp.addi (IntOp.shrsi .vector (BitVec.ofInt 32 (n.val - 149)) 1#32) 127#32) 23#32
        = BitVec.ofNat 32 (p * 8388608)
      ∧ IntOp.shli .vector (IntOp.addi (IntOp.subi (BitVec.ofInt 32 (n.val - 149)) (IntOp.shrsi .vector (BitVec.ofInt 32 (n.val - 149)) 1#32)) 127#32) 23#32
        = BitVec.ofNat 32 (q * 8388608)
      ∧ (BitVec.ofInt 32 (n.val - 149)).toInt = n.val - 149 := by
    decide +kernel
  obtain ⟨h1, h2, h3, h4, h5, h6, h7⟩ := key n
  exact ⟨⟨_, h2⟩, ⟨_, h4⟩, h1, h3, by dsimp only; omega, h5, h6, h7⟩

/-- A power of two built in two factors is the power, for an exponent from -149 to 149. -/
theorem built_eq (z : ℤ) (h0 : -149 ≤ z) (h1 : z ≤ 149) :
    built (BitVec.ofInt 32 z) = Ideal.pow (Ideal.ofBits .f32 0x40000000#32) ((((BitVec.ofInt 32 z).toInt : ℝ)) : EReal) := by
  obtain ⟨n, rfl⟩ : ∃ n : ℕ, z = (n : ℤ) - 149 := ⟨(z + 149).toNat, by omega⟩
  obtain ⟨p, q, hp, hq, hs, e1, e2, e3⟩ := halves ⟨n, by omega⟩
  dsimp only at hs e1 e2 e3
  unfold built
  rw [e1, e2, e3, ofBits_exponent _ hp p.isLt, ofBits_exponent _ hq q.isLt, pow_two, ← EReal.coe_mul,
    ← zpow_add₀ (by norm_num)]
  congr 2
  omega

/-! ## The exponent of a value -/

/-- How many of the 277 powers of two from `2 ^ -149` on are at most `v`, as a word. -/
def count (v : EReal) : BitVec 32 :=
  Finset.fold IntOp.addi (0#32)
    (fun k : Fin 277 => BitVec.setWidth 32 (BitVec.ofBool (decide (Ideal.ofBits .f32 (Cert.ReferenceIdeal.lit1 k) ≤ v)))) Finset.univ

/-- A sum of words that are each 0 or 1, over a set of indices, is at most the number of indices. -/
theorem fold_bits {ι : Type} [DecidableEq ι] (f : ι → Bool) (s : Finset ι) :
    ∃ n ≤ s.card, Finset.fold IntOp.addi (0#32) (fun k => BitVec.setWidth 32 (BitVec.ofBool (f k))) s = BitVec.ofNat 32 n := by
  induction s using Finset.induction_on with
  | empty => exact ⟨0, le_rfl, by simp⟩
  | insert a s ha ih =>
    obtain ⟨n, hn, e⟩ := ih
    rw [Finset.fold_insert ha, e, Finset.card_insert_of_notMem ha]
    cases f a
    · exact ⟨n, by omega, by simp [IntOp.addi]⟩
    · refine ⟨n + 1, by omega, ?_⟩
      rw [Nat.add_comm, BitVec.ofNat_add]
      rfl

theorem count_eq (v : EReal) : ∃ n ≤ 277, count v = BitVec.ofNat 32 n := by
  obtain ⟨n, hn, e⟩ := fold_bits (fun k : Fin 277 => decide (Ideal.ofBits .f32 (Cert.ReferenceIdeal.lit1 k) ≤ v)) Finset.univ
  exact ⟨n, by simpa using hn, e⟩

/-- The kernel's pattern of the `k`-th power of two. -/
def pattern (k : ℕ) : BitVec 32 :=
  Scalar.select (IntOp.cmpi .slt (BitVec.ofNat 32 k) 23#32)
    (IntOp.shli .vector (1#32) (IntOp.minsi (BitVec.ofNat 32 k) 22#32))
    (IntOp.shli .vector (IntOp.subi (BitVec.ofNat 32 k) 22#32) 23#32)

/-- It is the reference's table's. -/
theorem pattern_eq : ∀ k : Fin 277, pattern k.val = Cert.ReferenceIdeal.lit1 k := by
  decide +kernel

/-- The lanes that the kernel counts are the first 277. -/
theorem lane_lt : ∀ k : Fin 384, IntOp.cmpi .slt (BitVec.ofNat 32 k.val) 277#32 = BitVec.ofBool (decide (k.val < 277)) := by
  decide +kernel

/-- The kernel's count, over 384 lanes of which it masks the last 107. -/
def lanes (v : EReal) : BitVec 32 :=
  Finset.fold IntOp.addi (0#32)
    (fun k : Fin 384 => BitVec.setWidth 32
      (IntOp.andi (IntOp.cmpi .slt (BitVec.ofNat 32 k.val) 277#32) (BitVec.ofBool (decide (Ideal.ofBits .f32 (pattern k.val) ≤ v)))))
    Finset.univ

theorem fold_addi {ι : Type} [DecidableEq ι] (f : ι → BitVec 32) (s : Finset ι) :
    Finset.fold IntOp.addi (0#32) f s = ∑ k ∈ s, f k := by
  induction s using Finset.induction_on with
  | empty => rfl
  | insert a s ha ih => rw [Finset.fold_insert ha, Finset.sum_insert ha, ih]; rfl

/-- The two counts agree. -/
theorem lanes_eq (v : EReal) : lanes v = count v := by
  unfold lanes count
  rw [fold_addi, fold_addi, show (Finset.univ : Finset (Fin 384)) = (Finset.univ : Finset (Fin (277 + 107))) from rfl,
    Fin.sum_univ_add]
  have hr : ∀ k : Fin 107, BitVec.setWidth 32 (IntOp.andi (IntOp.cmpi .slt (BitVec.ofNat 32 (Fin.natAdd 277 k).val) 277#32)
      (BitVec.ofBool (decide (Ideal.ofBits .f32 (pattern (Fin.natAdd 277 k).val) ≤ v)))) = 0 := by
    intro k
    rw [lane_lt ⟨(Fin.natAdd 277 k).val, by omega⟩, decide_eq_false (by simp)]
    simp [IntOp.andi]
  rw [Finset.sum_eq_zero (s := (Finset.univ : Finset (Fin 107))) fun k _ => hr k, add_zero]
  refine Finset.sum_congr rfl fun k _ => ?_
  rw [lane_lt ⟨(Fin.castAdd 107 k).val, by omega⟩, decide_eq_true (by simp)]
  rw [show (Fin.castAdd 107 k).val = k.val from rfl, pattern_eq]
  cases decide (Ideal.ofBits .f32 (Cert.ReferenceIdeal.lit1 k) ≤ v) <;> rfl

end Cert.Proof.Power
end
-- ==== Proof.Spec.lean ====
/-
  Hand-written. The quantiser over the extended reals, one row of 4096 values at a time: what both programs are shown to compute.
-/
module

public import proofs.«01_k».proof.Proof.Hadamard
public import proofs.«01_k».proof.Proof.Power

@[expose] public section

set_option maxRecDepth 16384

noncomputable section

namespace Cert.Proof.Spec

open Idealize.ShloMosaic

/-- Row `R` of the argument, its two leading axes read as one. -/
def row (x : (Cert.KernelIdeal.S3x3072x4096).Idx → EReal) (R : Fin 9216) (j : Fin 4096) : EReal :=
  x (ix3 ⟨R.val / 3072, by omega⟩ ⟨R.val % 3072, by omega⟩ j)

/-- The rotated row: each block of 128 values times the Hadamard matrix, times the rounded `1 / √128`. -/
def rotated (x : Fin 4096 → EReal) (j : Fin 4096) : EReal :=
  (∑ k : Fin 128, x ⟨j.val / 128 * 128 + k.val, by omega⟩ * Hadamard.small k ⟨j.val % 128, by omega⟩)
    * Ideal.ofBits .f32 0x3DB504F3#32

/-- The largest magnitude of a row. -/
def absmax (y : Fin 4096 → EReal) : EReal :=
  Finset.fold max (Ideal.ofBits .f32 0xFF800000#32) (fun j => FloatOps.absf (F := Ideal) (φ := .f32) (y j)) Finset.univ

/-- The exponent of a value in `[2 ^ (e - 1), 2 ^ e)`, counted against the table of powers of two; 0 at zero and at infinity. -/
def exponent (v : EReal) : BitVec 32 :=
  Scalar.select
    (IntOp.andi (BitVec.ofBool (decide (0 < v))) (BitVec.ofBool (decide (v < Ideal.ofBits .f32 0x7F800000#32))))
    (IntOp.subi (Power.count v) 149#32) 0#32

/-- The exponent of a row's scale: that of its largest magnitude over 448, and 0 for a row of zeros. -/
def rowExponent (y : Fin 4096 → EReal) : BitVec 32 :=
  if absmax y = 0 then 0#32 else exponent (absmax y * Ideal.ofBits .f32 0x3B124925#32)

/-- Two to a word's power. -/
def power (e : BitVec 32) : EReal := Ideal.pow (Ideal.ofBits .f32 0x40000000#32) (((e.toInt : ℝ)) : EReal)

/-- A row's scale. -/
def scale (y : Fin 4096 → EReal) : EReal := power (rowExponent y)

/-- A row's code at column `j`: the value over the scale, kept within 448 of zero. -/
def code (y : Fin 4096 → EReal) (j : Fin 4096) : EReal :=
  min (Ideal.ofBits .f32 0x43E00000#32) (max (Ideal.ofBits .f32 0xC3E00000#32) (y j * power (-rowExponent y)))

/-- An exponent counted against the table is from -149 to 128. -/
theorem exponent_range (v : EReal) : ∃ z : ℤ, -149 ≤ z ∧ z ≤ 128 ∧ exponent v = BitVec.ofInt 32 z := by
  obtain ⟨n, hn, e⟩ := Power.count_eq v
  unfold exponent Scalar.select
  rw [e]
  split
  · refine ⟨(n : ℤ) - 149, by omega, by omega, ?_⟩
    show BitVec.ofNat 32 n - 149#32 = _
    rw [sub_eq_add_neg (n : ℤ), BitVec.ofInt_add, BitVec.ofInt_neg, BitVec.sub_eq_add_neg, BitVec.ofInt_natCast]
    rfl
  · exact ⟨0, by omega, by omega, rfl⟩

theorem rowExponent_range (y : Fin 4096 → EReal) : ∃ z : ℤ, -149 ≤ z ∧ z ≤ 128 ∧ rowExponent y = BitVec.ofInt 32 z := by
  unfold rowExponent
  split
  · exact ⟨0, by omega, by omega, rfl⟩
  · exact exponent_range _

/-- The scale, built in two factors. -/
theorem built_scale (y : Fin 4096 → EReal) : Power.built (rowExponent y) = power (rowExponent y) := by
  obtain ⟨z, h0, h1, e⟩ := rowExponent_range y
  rw [e]
  exact Power.built_eq z h0 (by omega)

/-- The scale's inverse, built in two factors. -/
theorem built_inverse (y : Fin 4096 → EReal) : Power.built (IntOp.subi (0#32) (rowExponent y)) = power (-rowExponent y) := by
  obtain ⟨z, h0, h1, e⟩ := rowExponent_range y
  rw [e, show IntOp.subi (0#32) (BitVec.ofInt 32 z) = BitVec.ofInt 32 (-z) by
    show 0#32 - BitVec.ofInt 32 z = _
    rw [BitVec.ofInt_neg, BitVec.zero_sub], ← BitVec.ofInt_neg]
  exact Power.built_eq (-z) (by omega) (by omega)

end Cert.Proof.Spec
end
-- ==== Proof.Row.lean ====
/-
  Hand-written. The body's quantisation of one block, read at an index: the scale and the codes of the block's rows.
-/
module

public import proofs.«01_k».proof.Proof.Block
public import proofs.«01_k».proof.Proof.Spec

@[expose] public section

set_option maxRecDepth 16384

noncomputable section

namespace Cert.Proof.Row

open Idealize.ShloMosaic Idealize.SL.Sem Cert.KernelIdeal Cert.KernelIdeal.Gen Idealize.ShloMosaic.TcCoe

/-- The body's sum over the lanes of its table, at a row. -/
theorem sum_apply (w : IVec S512x384 32) (r : Fin 512) :
    multiReductionI .add [1] S512 w 0#32 reduces_S512x384_S512 rfl (ix1 r)
      = Finset.fold IntOp.addi (0#32) (fun k : Fin 384 => w (ix2 r k)) Finset.univ := by
  pointwise []

/-- The body's test of each row's scaled largest magnitude against each power of two of its table, as words 0 and 1. -/
def lanes (a : FVec Ideal S512x1 .f32) : IVec S512x384 32 :=
  have v133 : FVec Ideal S512x1 .f32 := broadcast S512x1 (Scalar.ofBits .f32 0x3B124925#32)
  have v134 : FVec Ideal S512x1 .f32 := mulf a v133
  have v135 : IVec S512x384 32 := iota .tc S512x384 32 [1] iota_S512x384_d1_w32
  have v137 : IVec S512x384 1 := cmpi .slt v135 (broadcast S512x384 23#32)
  have v141 : IVec S512x384 32 := shli (broadcast S512x384 1#32) (minsi v135 (broadcast S512x384 22#32))
  have v145 : IVec S512x384 32 := shli (subi v135 (broadcast S512x384 22#32)) (broadcast S512x384 23#32)
  have v147 : FVec Ideal S512x384 .f32 := bitcastToFloat .f32 (select v137 v141 v145)
  have v149 : IVec S512x384 1 := cmpi .slt v135 (broadcast S512x384 277#32)
  have v151 : IVec S512x384 1 := cmpf .oge (broadcastTo S512x384 v134 broadcasts_S512x1_S512x384) v147
  extui 32 (andi v149 v151) natLt_1_32

/-- One lane of it. -/
theorem lanes_apply (a : FVec Ideal S512x1 .f32) (r : Fin 512) (k : Fin 384) : lanes a (ix2 r k)
    = BitVec.setWidth 32 (IntOp.andi (IntOp.cmpi .slt (BitVec.ofNat 32 k.val) 277#32)
        (BitVec.ofBool (decide (Ideal.ofBits .f32 (Power.pattern k.val) ≤ a (ix2 r 0) * Ideal.ofBits .f32 0x3B124925#32)))) := by
  pointwise [lanes, Power.pattern]

/-- The body's exponents, over the sums of the lanes. -/
def exponents (a : FVec Ideal S512x1 .f32) (n : IVec S512 32) : IVec S512x1 32 :=
  have v134 : FVec Ideal S512x1 .f32 := mulf a (broadcast S512x1 (Scalar.ofBits .f32 0x3B124925#32))
  have v155 : IVec S512x1 32 := shapeCast S512x1 n shapeCasts_S512_S512x1
  have v157 : IVec S512x1 1 := cmpf .ogt v134 (broadcast S512x1 (Scalar.ofBits .f32 0x00000000#32))
  have v159 : IVec S512x1 1 := cmpf .olt v134 (broadcast S512x1 (Scalar.ofBits .f32 0x7F800000#32))
  select (andi v157 v159) (subi v155 (broadcast S512x1 149#32)) (broadcast S512x1 0#32)

theorem exponents_apply (a : FVec Ideal S512x1 .f32) (n : IVec S512 32) (r : Fin 512) : exponents a n (ix2 r 0)
    = Scalar.select
      (IntOp.andi (BitVec.ofBool (decide (0 < a (ix2 r 0) * Ideal.ofBits .f32 0x3B124925#32)))
        (BitVec.ofBool (decide (a (ix2 r 0) * Ideal.ofBits .f32 0x3B124925#32 < Ideal.ofBits .f32 0x7F800000#32))))
      (IntOp.subi (n (ix1 r)) 149#32) 0#32 := by
  pointwise [exponents]

theorem pay22_eq (y : Vec Ideal S512x4096 .f32) : k0_pay22 (F := Ideal) y
    = exponents (k0_pay21 y) (multiReductionI .add [1] S512 (lanes (k0_pay21 y)) 0#32 reduces_S512x384_S512 rfl) := rfl

/-- The body's largest magnitudes. -/
theorem pay21_apply (y : Vec Ideal S512x4096 .f32) (r : Fin 512) :
    k0_pay21 (F := Ideal) y (ix2 r 0) = Spec.absmax fun j => y (ix2 r j) := by
  pointwise [k0_pay21, Spec.absmax]

/-- The body's exponents of the scaled largest magnitudes. -/
theorem pay22_apply (y : Vec Ideal S512x4096 .f32) (r : Fin 512) : k0_pay22 (F := Ideal) y (ix2 r 0)
    = Spec.exponent ((Spec.absmax fun j => y (ix2 r j)) * Ideal.ofBits .f32 0x3B124925#32) := by
  rw [pay22_eq, exponents_apply, sum_apply]
  simp only [lanes_apply, pay21_apply]
  rw [show ∀ v : EReal, (Finset.fold IntOp.addi (0#32)
    (fun k : Fin 384 => BitVec.setWidth 32
      (IntOp.andi (IntOp.cmpi .slt (BitVec.ofNat 32 k.val) 277#32) (BitVec.ofBool (decide (Ideal.ofBits .f32 (Power.pattern k.val) ≤ v)))))
    Finset.univ) = Power.count v from Power.lanes_eq]
  rfl

/-- The exponents of the rows' scales. -/
theorem row_exponent (y : Vec Ideal S512x4096 .f32) (r : Fin 512) :
    k0_pay25 (k0_pay22 (F := Ideal) y) (k0_pay23 y) k0_pay24 (ix2 r 0) = Spec.rowExponent fun j => y (ix2 r j) := by
  have h : k0_pay25 (k0_pay22 (F := Ideal) y) (k0_pay23 y) k0_pay24 (ix2 r 0)
      = Scalar.select (BitVec.ofBool (decide (k0_pay21 (F := Ideal) y (ix2 r 0) = 0))) 0#32 (k0_pay22 (F := Ideal) y (ix2 r 0)) := by
    generalize k0_pay22 (F := Ideal) y = e
    pointwise [k0_pay25, k0_pay23, k0_pay24]
  rw [h, pay21_apply, pay22_apply]
  unfold Spec.rowExponent Scalar.select
  by_cases h0 : (Spec.absmax fun j => y (ix2 r j)) = 0
  · rw [if_pos h0, decide_eq_true h0]; rfl
  · rw [if_neg h0, decide_eq_false h0]; rfl

/-- The rows' scales, over their exponents. -/
theorem pay26_apply (a : IVec S512x1 32) (b : IVec S512x1 1) (c : IVec S512x1 32) (r : Fin 512) :
    k0_pay26 (F := Ideal) a b c (ix2 r 0) = Power.built (k0_pay25 a b c (ix2 r 0)) := by
  unfold k0_pay26
  generalize k0_pay25 a b c = e
  pointwise [Power.built]

/-- The rows' codes, over their exponents. -/
theorem pay27_apply (y : Vec Ideal S512x4096 .f32) (a : IVec S512x1 32) (b : IVec S512x1 1) (c : IVec S512x1 32) (r : Fin 512) (j : Fin 4096) :
    k0_pay27 (F := Ideal) y a b c (ix2 r j)
      = min (Ideal.ofBits .f32 0x43E00000#32) (max (Ideal.ofBits .f32 0xC3E00000#32)
          (y (ix2 r j) * Power.built (IntOp.subi (0#32) (k0_pay25 a b c (ix2 r 0))))) := by
  unfold k0_pay27
  generalize k0_pay25 a b c = e
  pointwise [Power.built]

/-- The rows' scales. -/
theorem scale_apply (y : Vec Ideal S512x4096 .f32) (r : Fin 512) :
    k0_pay26 (F := Ideal) (k0_pay22 (F := Ideal) y) (k0_pay23 y) k0_pay24 (ix2 r 0) = Spec.scale fun j => y (ix2 r j) := by
  rw [pay26_apply, row_exponent, Spec.built_scale]
  rfl

/-- The rows' codes. -/
theorem code_apply (y : Vec Ideal S512x4096 .f32) (r : Fin 512) (j : Fin 4096) :
    k0_pay27 y (k0_pay22 (F := Ideal) y) (k0_pay23 y) k0_pay24 (ix2 r j) = Spec.code (fun j => y (ix2 r j)) j := by
  rw [pay27_apply, row_exponent, Spec.built_inverse]
  rfl

end Cert.Proof.Row
end
-- ==== Proof.KernelValue.lean ====
/-
  Hand-written. The kernel's two arrays after its run: each row's scale and each row's codes, of the argument's rows.
-/
module

public import proofs.«01_k».proof.Proof.Row
public import Idealize.ShloMosaic.Lib.Pipeline.ValueKit
public import Idealize.ShloMosaic.Lib.Pointwise

@[expose] public section

set_option maxRecDepth 16384

noncomputable section

namespace Cert.Proof.KernelValue

open Idealize.ShloMosaic Idealize.SL.Sem Cert.KernelIdeal Cert.KernelIdeal.Gen Idealize.ShloMosaic.TcCoe

variable (m : (ℓ : Loc nD τ sig) → Buf (Elt Ideal) ℓ)

/-- The windows' block indices over the grid. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

/-- The kernel's first operand is the argument, its two leading axes as one. -/
theorem operand_apply (c : Dev nD) (R : Fin 9216) (j : Fin 4096) :
    (V m c main_v0 : S9216x4096.Idx → EReal) (ix2 R j) = Spec.row (m ((c : Thread nD τ).loc main_arg0)) R j := by
  entry_read
  pointwise [Spec.row]

/-- The kernel's second operand is its table. -/
theorem table_apply (c : Dev nD) (k j : Fin 256) : (V m c main_cst : S256x256.Idx → EReal) (ix2 k j) = Hadamard.big k j := by
  have h : (V m c main_cst : S256x256.Idx → EReal) (ix2 k j) = Ideal.ofBits .bf16 (lit0 (S256x256.rowMajor (ix2 k j))) := by
    entry_read
    rfl
  rw [h]
  unfold Hadamard.big
  refine congrArg (fun i => Ideal.ofBits .bf16 (lit0 i)) (Fin.ext ?_)
  rw [Idealize.ShloMosaic.rowMajor_val2 (d := ![256, 256]) (ix2 k j) 256 rfl]
  show k.val * 256 + j.val = 256 * k.val + j.val
  omega

/-- The kernel's argument block at point `t`. -/
theorem iblk0_apply (c : Dev nD) (t : Fin cfg0.N) (r : Fin 512) (j : Fin 4096) :
    (iblk m c 0 t : S512x4096.Idx → EReal) (ix2 r j)
      = Spec.row (m ((c : Thread nD τ).loc main_arg0)) ⟨512 * t.val + r.val, by have := t.isLt; have : cfg0.N = 18 := rfl; omega⟩ j := by
  rw [← operand_apply]
  refine congrArg (V m c main_v0 : S9216x4096.Idx → EReal) ?_
  blk_ext [idx t]

theorem iblk1_apply (c : Dev nD) (t : Fin cfg0.N) (k j : Fin 256) :
    (iblk m c 1 t : S256x256.Idx → EReal) (ix2 k j) = Hadamard.big k j := by
  rw [← table_apply m c]
  refine congrArg (V m c main_cst : S256x256.Idx → EReal) ?_
  blk_ext [idx t]

/-- The scratch at point `t`: the rotated row, block of 128 by block of 128. -/
theorem rot_row (c : Dev nD) (t : Fin cfg0.N) (r : Fin 512) (j : Fin 4096) :
    Block.rot (iblk m c 0 t) (iblk m c 1 t) r j
      = Spec.rotated (Spec.row (m ((c : Thread nD τ).loc main_arg0)) ⟨512 * t.val + r.val, by have := t.isLt; have : cfg0.N = 18 := rfl; omega⟩) j := by
  unfold Block.rot Spec.rotated
  simp only [iblk0_apply, iblk1_apply]
  rw [Hadamard.sum_big (fun k : Fin 256 => Spec.row (m ((c : Thread nD τ).loc main_arg0)) ⟨512 * t.val + r.val, _⟩ ⟨j.val / 256 * 256 + k.val, by omega⟩)
    ⟨j.val % 256, by omega⟩]
  congr 1
  refine Finset.sum_congr rfl fun k _ => ?_
  congr 2 <;> exact Fin.ext (by show _ = _; dsimp only; omega)

theorem scratch_row (c : Dev nD) (t : Fin cfg0.N) (r : Fin 512) :
    (fun j => Block.scratch (F := Ideal) (iblk m c 0 t) (iblk m c 1 t) (ix2 r j))
      = Spec.rotated (Spec.row (m ((c : Thread nD τ).loc main_arg0)) ⟨512 * t.val + r.val, by have := t.isLt; have : cfg0.N = 18 := rfl; omega⟩) := by
  funext j
  rw [Block.scratch_eq]
  exact rot_row m c t r j

/-- The scales after the run: each row's scale. -/
theorem scales (c : Dev nD) : (dats m 0 c).arrAt 2 cfg0.N
    = fun i : S9216x1.Idx => Spec.scale (Spec.rotated (Spec.row (m ((c : Thread nD τ).loc main_arg0)) (i 0))) := by
  refine (dats m 0 c).arrAt_eq_of_covers 2 _ (by decide +kernel) fun t hf y => ?_
  blk_simp
  rw [after0_2, Block.outs_scale]
  obtain ⟨r, q, rfl⟩ : ∃ (r : Fin 512) (q : Fin 1), y = ix2 r q := ⟨y 0, y 1, by funext a; fin_cases a <;> rfl⟩
  obtain rfl : q = 0 := Subsingleton.elim _ _
  refine (Row.scale_apply _ r).trans ?_
  rw [scratch_row]
  refine congrArg (fun R => Spec.scale (Spec.rotated (Spec.row (m ((c : Thread nD τ).loc main_arg0)) R))) (Fin.ext ?_)
  blk_simp [idx t]
  dsimp only
  omega

/-- The codes after the run: each row's codes. -/
theorem codes (c : Dev nD) : (dats m 0 c).arrAt 3 cfg0.N
    = fun i : S9216x4096.Idx => Spec.code (Spec.rotated (Spec.row (m ((c : Thread nD τ).loc main_arg0)) (i 0))) (i 1) := by
  refine (dats m 0 c).arrAt_eq_of_covers 3 _ (by decide +kernel) fun t hf y => ?_
  blk_simp
  rw [after0_3, Block.outs_code]
  obtain ⟨r, j, rfl⟩ : ∃ (r : Fin 512) (j : Fin 4096), y = ix2 r j := ⟨y 0, y 1, by funext a; fin_cases a <;> rfl⟩
  refine (Row.code_apply _ r j).trans ?_
  rw [scratch_row]
  refine congr (congrArg (fun R => Spec.code (Spec.rotated (Spec.row (m ((c : Thread nD τ).loc main_arg0)) R))) (Fin.ext ?_)) (Fin.ext ?_)
  · blk_simp [idx t]
    dsimp only
    omega
  · blk_simp [idx t]

/-- The kernel's run: it ends with the scales and the codes, its argument kept. -/
theorem run (ρ : Dev nD → PrngReg) : θ_run defs (onTc (τ := τ) (main (F := Ideal))) ⟨m, fun _ => 0, ρ⟩ fun r => ∀ c : Dev nD,
      r.2.mem ((c : Thread nD τ).loc main_v1_0)
        = (fun i : S9216x1.Idx => Spec.scale (Spec.rotated (Spec.row (m ((c : Thread nD τ).loc main_arg0)) (i 0))))
      ∧ r.2.mem ((c : Thread nD τ).loc main_v1_1)
        = (fun i : S9216x4096.Idx => Spec.code (Spec.rotated (Spec.row (m ((c : Thread nD τ).loc main_arg0)) (i 0))) (i 1))
      ∧ r.2.mem ((c : Thread nD τ).loc main_arg0) = m ((c : Thread nD τ).loc main_arg0) :=
  (θ_run defs _ _).mono (fun r h c => ⟨(h c).1.trans (scales m c), (h c).2.1.trans (codes m c), (h c).2.2⟩)
    (Value.run_blocks m ρ)

end Cert.Proof.KernelValue
end
-- ==== Proof.ReferenceValue.lean ====
/-
  Hand-written. The reference's two arrays after its run: each row's scale and each row's codes, of the argument's rows.
-/
module

public import proofs.«01_k».proof.Defs
public import proofs.«01_k».proof.Proof.Gen.ReferenceIdeal.Value
public import proofs.«01_k».proof.Proof.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.ReferenceValue

open Idealize.ShloMosaic Idealize.SL.Sem Cert.ReferenceIdeal Cert.ReferenceIdeal.Gen Idealize.ShloMosaic.TcCoe

variable (m : (ℓ : Loc nD τ sig) → Buf (Elt Ideal) ℓ)

theorem small_apply (k j : Fin 128) : Ideal.ofBits .bf16 (lit0 (S128x128.rowMajor (ix2 k j))) = Hadamard.small k j := by
  unfold Hadamard.small
  refine congrArg (fun i => Ideal.ofBits .bf16 (lit0 i)) (Fin.ext ?_)
  rw [Idealize.ShloMosaic.rowMajor_val2 (d := ![128, 128]) (ix2 k j) 128 rfl]
  show k.val * 128 + j.val = 128 * k.val + j.val
  omega

theorem power_row (k : Fin 277) : S277.rowMajor (ix1 k) = k :=
  Fin.ext (Idealize.ShloMosaic.rowMajor_val1 (d := ![277]) (ix1 k))

/-! ## The host operations, a stage at a time -/

/-- The rotation and its scaling. -/
def rotate (x : FVec Ideal S3x3072x4096 .bf16) : FVec Ideal S3x3072x4096 .f32 :=
  shapeCast S3x3072x4096
    (mulf
      (Host.dotGeneral dot_S3x3072x32x128_S128x128_S3x3072x32x128_3_0_012_1_n_n none
        (shapeCast S3x3072x32x128 x shapeCasts_S3x3072x4096_S3x3072x32x128)
        (fun i => FloatOps.ofBits .bf16 (lit0 (S128x128.rowMajor i)) : FVec Ideal S128x128 .bf16) : FVec Ideal S3x3072x32x128 .f32)
      (broadcastInDim S3x3072x32x128 ![] bcast_S_S3x3072x32x128 (constant (F := Ideal) S_ .f32 0x3DB504F3#32)))
    shapeCasts_S3x3072x32x128_S3x3072x4096

/-- Each row's largest magnitude. -/
def magnitude (y : FVec Ideal S3x3072x4096 .f32) : FVec Ideal S3x3072x1 .f32 :=
  broadcastInDim S3x3072x1 ![0, 1] bcast_S3x3072_S3x3072x1_0_1
    (Host.reduce FloatOps.maximumf (Host.absf y) (constant (F := Ideal) S_ .f32 0xFF800000#32) reducesTo_S3x3072x4096_S3x3072_d2 h_S_)

/-- The largest magnitudes over 448. -/
def scaled (a : FVec Ideal S3x3072x1 .f32) : FVec Ideal S3x3072x1 .f32 :=
  mulf a (broadcastInDim S3x3072x1 ![] bcast_S_S3x3072x1 (constant (F := Ideal) S_ .f32 0x3B124925#32))

/-- How many powers of two of the table are at most each value. -/
def counted (v : FVec Ideal S3x3072x1 .f32) : IVec S3x3072x1 32 :=
  broadcastInDim S3x3072x1 ![0, 1] bcast_S3x3072_S3x3072x1_0_1
    (Host.reduce IntOp.addi
      (extui 32
        (cmpf .oge (broadcastInDim S3x3072x277 ![0, 1, 2] bcast_S3x3072x1_S3x3072x277_0_1_2 v)
          (broadcastInDim S3x3072x277 ![0, 1, 2] bcast_S1x1x277_S3x3072x277_0_1_2
            (broadcastInDim S1x1x277 ![2] bcast_S277_S1x1x277_2
              (fun i => FloatOps.ofBits .f32 (lit1 (S277.rowMajor i)) : FVec Ideal S277 .f32))))
        natLt_1_32)
      (constantI S_ 32 0#32) reducesTo_S3x3072x277_S3x3072_d2 h_S_)

/-- The exponents, from the largest magnitudes, the magnitudes over 448 and their counts. -/
def exponents (a v : FVec Ideal S3x3072x1 .f32) (n : IVec S3x3072x1 32) : IVec S3x3072x1 32 :=
  select (cmpf .oeq a (broadcastInDim S3x3072x1 ![] bcast_S_S3x3072x1 (constant (F := Ideal) S_ .f32 0x00000000#32)))
    (broadcastInDim S3x3072x1 ![] bcast_S_S3x3072x1 (constantI S_ 32 0#32))
    (select
      (andi (cmpf .ogt v (broadcastInDim S3x3072x1 ![] bcast_S_S3x3072x1 (constant (F := Ideal) S_ .f32 0x00000000#32)))
        (cmpf .olt v (broadcastInDim S3x3072x1 ![] bcast_S_S3x3072x1 (constant (F := Ideal) S_ .f32 0x7F800000#32))))
      (subi n (broadcastInDim S3x3072x1 ![] bcast_S_S3x3072x1 (constantI S_ 32 149#32)))
      (broadcastInDim S3x3072x1 ![] bcast_S_S3x3072x1 (id (constantI S_ 32 0#32))))

/-- Two to the exponents. -/
def powers (e : IVec S3x3072x1 32) : FVec Ideal S3x3072x1 .f32 :=
  Host.powf (broadcastInDim S3x3072x1 ![] bcast_S_S3x3072x1 (constant (F := Ideal) S_ .f32 0x40000000#32)) (sitofp .f32 e)

/-- The codes before their last change of format. -/
def coded (y : FVec Ideal S3x3072x4096 .f32) (e : IVec S3x3072x1 32) : FVec Ideal S3x3072x4096 .f32 :=
  minimumf (broadcastInDim S3x3072x4096 ![] bcast_S_S3x3072x4096 (id (constant (F := Ideal) S_ .f32 0x43E00000#32)))
    (maximumf (broadcastInDim S3x3072x4096 ![] bcast_S_S3x3072x4096 (id (constant (F := Ideal) S_ .f32 0xC3E00000#32)))
      (mulf y (broadcastInDim S3x3072x4096 ![0, 1, 2] bcast_S3x3072x1_S3x3072x4096_0_1_2 (powers (negi e)))))

/-! ## Each stage at an index -/

theorem rotate_apply (x : FVec Ideal S3x3072x4096 .bf16) (a : Fin 3) (b : Fin 3072) (j : Fin 4096) :
    rotate x (ix3 a b j) = Spec.rotated (fun j => x (ix3 a b j)) j := by
  have h : rotate x (ix3 a b j) = (∑ k : Fin 128, x (ix3 a b ⟨j.val / 128 * 128 + k.val, by omega⟩)
      * Ideal.ofBits .bf16 (lit0 (S128x128.rowMajor (ix2 k ⟨j.val % 128, by omega⟩)))) * Ideal.ofBits .f32 0x3DB504F3#32 := by
    pointwise [rotate]
  rw [h]
  exact congrArg (· * Ideal.ofBits .f32 0x3DB504F3#32) (Finset.sum_congr rfl fun k _ => congrArg (_ * ·) (small_apply k _))

theorem magnitude_apply (y : FVec Ideal S3x3072x4096 .f32) (a : Fin 3) (b : Fin 3072) :
    magnitude y (ix3 a b 0) = Spec.absmax fun j => y (ix3 a b j) := by
  pointwise [magnitude, Spec.absmax]

theorem counted_apply (v : FVec Ideal S3x3072x1 .f32) (a : Fin 3) (b : Fin 3072) :
    counted v (ix3 a b 0) = Power.count (v (ix3 a b 0)) := by
  have h : counted v (ix3 a b 0) = Finset.fold IntOp.addi (0#32) (fun k : Fin 277 => BitVec.setWidth 32
      (BitVec.ofBool (decide (Ideal.ofBits .f32 (lit1 (S277.rowMajor (ix1 k))) ≤ v (ix3 a b 0))))) Finset.univ := by
    pointwise [counted]
  rw [h]
  unfold Power.count
  refine congrArg (fun f => Finset.fold IntOp.addi (0#32) f Finset.univ) (funext fun k => ?_)
  rw [power_row]

theorem scaled_apply (a : FVec Ideal S3x3072x1 .f32) (i : S3x3072x1.Idx) : scaled a i = a i * Ideal.ofBits .f32 0x3B124925#32 := rfl

theorem exponents_apply (a v : FVec Ideal S3x3072x1 .f32) (n : IVec S3x3072x1 32) (i : S3x3072x1.Idx) : exponents a v n i
    = Scalar.select (BitVec.ofBool (decide (a i = 0))) 0#32
      (Scalar.select (IntOp.andi (BitVec.ofBool (decide (0 < v i))) (BitVec.ofBool (decide (v i < Ideal.ofBits .f32 0x7F800000#32))))
        (IntOp.subi (n i) 149#32) 0#32) := by
  idx_vars i
  pointwise [exponents]
  rfl

theorem powers_apply (e : IVec S3x3072x1 32) (i : S3x3072x1.Idx) : powers e i = Spec.power (e i) := by
  idx_vars i
  pointwise [powers, Spec.power]
  rfl

theorem coded_apply (y : FVec Ideal S3x3072x4096 .f32) (e : IVec S3x3072x1 32) (a : Fin 3) (b : Fin 3072) (j : Fin 4096) :
    coded y e (ix3 a b j) = min (Ideal.ofBits .f32 0x43E00000#32) (max (Ideal.ofBits .f32 0xC3E00000#32)
      (y (ix3 a b j) * Spec.power (-e (ix3 a b 0)))) := by
  unfold coded
  have h := powers_apply (negi e) (ix3 a b 0)
  generalize powers (negi e) = p at h ⊢
  rw [show Spec.power (-e (ix3 a b 0)) = p (ix3 a b 0) from h.symm]
  pointwise []
  rfl

/-! ## The host operations are their stages -/

variable (c : Dev nD)

theorem rotated_eq : (V m c main_v4 : FVec Ideal S3x3072x4096 .f32) = rotate (m ((c : Thread nD τ).loc main_arg0)) := by
  unfold V
  after_reads_simp
  rfl

theorem magnitude_eq : (V m c main_v7 : FVec Ideal S3x3072x1 .f32) = magnitude (V m c main_v4) := by
  unfold V
  after_reads_simp
  rfl

theorem scaled_eq : (V m c main_v9 : FVec Ideal S3x3072x1 .f32) = scaled (V m c main_v7) := by
  unfold V
  after_reads_simp
  rfl

theorem counted_eq : (V m c main_v16 : IVec S3x3072x1 32) = counted (V m c main_v9) := by
  unfold V
  after_reads_simp
  rfl

theorem exponents_eq : (V m c main_v28 : IVec S3x3072x1 32) = exponents (V m c main_v7) (V m c main_v9) (V m c main_v16) := by
  unfold V
  after_reads_simp
  simp -implicitDefEqProofs only [StableHlo.TRef.toBuf, StableHlo.TRef.ofBuf, cast_cast, cast_eq]
  rfl

theorem powers_eq : (V m c main_v40 : FVec Ideal S9216x1 .f32)
    = shapeCast S9216x1 (powers (V m c main_v28)) shapeCasts_S3x3072x1_S9216x1 := by
  unfold V
  after_reads_simp
  simp -implicitDefEqProofs only [StableHlo.TRef.toBuf, StableHlo.TRef.ofBuf, cast_cast, cast_eq]
  rfl

theorem coded_eq : (V m c main_v39 : FVec Ideal S9216x4096 .f32)
    = shapeCast S9216x4096 (coded (V m c main_v4) (V m c main_v28)) shapeCasts_S3x3072x4096_S9216x4096 := by
  unfold V
  after_reads_simp
  simp -implicitDefEqProofs only [StableHlo.TRef.toBuf, StableHlo.TRef.ofBuf, cast_cast, cast_eq]
  rfl

/-! ## The two arrays -/

/-- The rotated rows. -/
theorem rotated_row (a : Fin 3) (b : Fin 3072) :
    (fun j => (V m c main_v4 : FVec Ideal S3x3072x4096 .f32) (ix3 a b j))
      = Spec.rotated fun j => (m ((c : Thread nD τ).loc main_arg0) : S3x3072x4096.Idx → EReal) (ix3 a b j) := by
  funext j
  rw [rotated_eq]
  exact rotate_apply _ a b j

/-- The rows' exponents. -/
theorem exponent_row (a : Fin 3) (b : Fin 3072) :
    (V m c main_v28 : IVec S3x3072x1 32) (ix3 a b 0)
      = Spec.rowExponent (Spec.rotated fun j => (m ((c : Thread nD τ).loc main_arg0) : S3x3072x4096.Idx → EReal) (ix3 a b j)) := by
  have ha : (V m c main_v7 : FVec Ideal S3x3072x1 .f32) (ix3 a b 0)
      = Spec.absmax (Spec.rotated fun j => (m ((c : Thread nD τ).loc main_arg0) : S3x3072x4096.Idx → EReal) (ix3 a b j)) := by
    rw [magnitude_eq, magnitude_apply, rotated_row]
  have hv : (V m c main_v9 : FVec Ideal S3x3072x1 .f32) (ix3 a b 0)
      = Spec.absmax (Spec.rotated fun j => (m ((c : Thread nD τ).loc main_arg0) : S3x3072x4096.Idx → EReal) (ix3 a b j))
        * Ideal.ofBits .f32 0x3B124925#32 := by
    rw [scaled_eq, scaled_apply, ha]
  rw [exponents_eq, exponents_apply, counted_eq, counted_apply, ha, hv]
  unfold Spec.rowExponent
  generalize Spec.absmax _ = A
  unfold Spec.exponent
  by_cases h0 : A = 0
  · rw [if_pos h0, decide_eq_true h0]; rfl
  · rw [if_neg h0, decide_eq_false h0]; rfl

/-- The scales. -/
theorem scales : (V m c main_v40 : FVec Ideal S9216x1 .f32)
    = fun i : S9216x1.Idx => Spec.scale (Spec.rotated (Spec.row (m ((c : Thread nD τ).loc main_arg0)) (i 0))) := by
  funext i
  obtain ⟨R, q, rfl⟩ : ∃ (R : Fin 9216) (q : Fin 1), i = ix2 R q := ⟨i 0, i 1, by funext a; fin_cases a <;> rfl⟩
  obtain rfl : q = 0 := Subsingleton.elim _ _
  rw [powers_eq]
  have h : ∀ p : FVec Ideal S3x3072x1 .f32, shapeCast S9216x1 p shapeCasts_S3x3072x1_S9216x1 (ix2 R 0)
      = p (ix3 ⟨R.val / 3072, by omega⟩ ⟨R.val % 3072, by omega⟩ 0) := fun p => by pointwise []
  rw [h, powers_apply, exponent_row]
  rfl

/-- The codes before their last change of format. -/
theorem coded_row : (V m c main_v39 : FVec Ideal S9216x4096 .f32)
    = fun i : S9216x4096.Idx => Spec.code (Spec.rotated (Spec.row (m ((c : Thread nD τ).loc main_arg0)) (i 0))) (i 1) := by
  funext i
  obtain ⟨R, j, rfl⟩ : ∃ (R : Fin 9216) (j : Fin 4096), i = ix2 R j := ⟨i 0, i 1, by funext a; fin_cases a <;> rfl⟩
  rw [coded_eq]
  have h : ∀ p : FVec Ideal S3x3072x4096 .f32, shapeCast S9216x4096 p shapeCasts_S3x3072x4096_S9216x4096 (ix2 R j)
      = p (ix3 ⟨R.val / 3072, by omega⟩ ⟨R.val % 3072, by omega⟩ j) := fun p => by pointwise []
  rw [h, coded_apply, exponent_row, rotated_eq, rotate_apply]
  rfl

/-- The codes: the last change of format keeps each value. -/
theorem codes : (dats m 0 c).arrAt 1 cfg0.N
    = fun i : S9216x4096.Idx => Spec.code (Spec.rotated (Spec.row (m ((c : Thread nD τ).loc main_arg0)) (i 0))) (i 1) := by
  rw [← coded_row m c]
  refine (dats m 0 c).arrAt_eq_of_covers 1 _ (by decide +kernel) fun t hf y => ?_
  blk_simp
  rw [after0_1]
  refine (Value.canon1_eq (F := Ideal) _ y).trans ?_
  refine congrArg (V m c main_v39 : S9216x4096.Idx → EReal) (funext fun a => Fin.ext ?_)
  have e0 : win0_0.index t = ![0, 0] := (by decide +kernel : ∀ t : Fin grid0.N, win0_0.index t = ![0, 0]) t
  have e1 : win0_1.index t = ![0, 0] := (by decide +kernel : ∀ t : Fin grid0.N, win0_1.index t = ![0, 0]) t
  fin_cases a
  · blk_simp [e0, e1]
    show 0 + 1 * (y 0).val = (y 0).val
    omega
  · blk_simp [e0, e1]
    show 0 + 1 * (y 1).val = (y 1).val
    omega

/-- The reference's run: it ends with the scales and the codes, its argument kept. -/
theorem run (ρ : Dev nD → PrngReg) : θ_run defs (onTc (τ := τ) (main (F := Ideal))) ⟨m, fun _ => 0, ρ⟩ fun r => ∀ c : Dev nD,
      r.2.mem ((c : Thread nD τ).loc main_v40)
        = (fun i : S9216x1.Idx => Spec.scale (Spec.rotated (Spec.row (m ((c : Thread nD τ).loc main_arg0)) (i 0))))
      ∧ r.2.mem ((c : Thread nD τ).loc main_v41)
        = (fun i : S9216x4096.Idx => Spec.code (Spec.rotated (Spec.row (m ((c : Thread nD τ).loc main_arg0)) (i 0))) (i 1))
      ∧ r.2.mem ((c : Thread nD τ).loc main_arg0) = m ((c : Thread nD τ).loc main_arg0) :=
  (θ_run defs _ _).mono (fun r h c => ⟨((h c).2 main_v40 (Pipeline.mem_restRefs_of main_v40 (by decide) (by decide))).trans (scales m c),
      (Value.post1 m r h c).trans (codes m c), Value.kept_main_arg0 m r h c⟩)
    (run_main m ρ)

end Cert.Proof.ReferenceValue
end
-- ==== Proof.lean ====
/-
  Hand-written. The proof of `Cert.Claim` (proof/Defs.lean): the three generated frames, the rewrites that keep the program
  (there are none), and the algebraic claim. Each program's two results are the same functions of its argument
  (Proof/KernelValue.lean and Proof/ReferenceValue.lean, `run`): each row's scale and each row's codes (Proof/Spec.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem

/-- `Cert.algebraic_KernelIdeal_ReferenceIdeal`: both programs run, and from equal arguments the scales and the codes are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, KernelValue.run m g, ?_⟩
  refine (θ_run (Cert.ReferenceIdeal.defs (F := Ideal)) _ _).mono (fun r h c => ?_) (ReferenceValue.run m' g')
  obtain ⟨h0, h1, ha⟩ := h c
  refine ⟨h0.trans ?_, h1.trans ?_, ha⟩
  · rw [hargs c]
  · rw [hargs c]

theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, fun m g _ => Cert.ReferenceIdeal.Gen.frame m g, trivial, algebraic⟩

end Cert.Proof

end
